-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x240x80x80 : Shape := ⟨4, ![1, 240, 80, 80]⟩
abbrev S1x12x80x80 : Shape := ⟨4, ![1, 12, 80, 80]⟩
abbrev S4x80x240 : Shape := ⟨3, ![4, 80, 240]⟩
abbrev S80x19200 : Shape := ⟨2, ![80, 19200]⟩
abbrev S4x19200 : Shape := ⟨2, ![4, 19200]⟩
abbrev S240x80x80 : Shape := ⟨3, ![240, 80, 80]⟩
abbrev S80x80x240 : Shape := ⟨3, ![80, 80, 240]⟩
abbrev S80x1x240 : Shape := ⟨3, ![80, 1, 240]⟩
abbrev S80x240 : Shape := ⟨2, ![80, 240]⟩
abbrev S12x80x80 : Shape := ⟨3, ![12, 80, 80]⟩
abbrev S12x20x4x80 : Shape := ⟨4, ![12, 20, 4, 80]⟩
abbrev S12x20x1x80 : Shape := ⟨4, ![12, 20, 1, 80]⟩
abbrev S12x20x80 : Shape := ⟨3, ![12, 20, 80]⟩
abbrev S240x80 : Shape := ⟨2, ![240, 80]⟩
abbrev S1x80x240 : Shape := ⟨3, ![1, 80, 240]⟩
abbrev S1x240 : Shape := ⟨2, ![1, 240]⟩
abbrev S240 : Shape := ⟨1, ![240]⟩
abbrev S19200x80 : Shape := ⟨2, ![19200, 80]⟩
abbrev S19200x4 : Shape := ⟨2, ![19200, 4]⟩

abbrev nBuf : Space → Nat
  | .hbm => 7
  | .vmem => 5
  | .smem => 0
  | _ => 0

abbrev bufTy : (tb : Table) → Fin (tcTables nBuf tb) → BufTy
  | .hbm, ⟨0, _⟩ => ⟨S1x240x80x80, .f32⟩
  | .hbm, ⟨1, _⟩ => ⟨S1x12x80x80, .f32⟩
  | .hbm, ⟨2, _⟩ => ⟨S4x80x240, .f32⟩
  | .hbm, ⟨3, _⟩ => ⟨S80x19200, .f32⟩
  | .hbm, ⟨4, _⟩ => ⟨S4x19200, .f32⟩
  | .hbm, ⟨5, _⟩ => ⟨S19200x80, .f32⟩
  | .hbm, ⟨6, _⟩ => ⟨S19200x4, .f32⟩
  | .local _ .vmem, ⟨0, _⟩ => ⟨S1x240x80x80, .f32⟩
  | .local _ .vmem, ⟨1, _⟩ => ⟨S1x12x80x80, .f32⟩
  | .local _ .vmem, ⟨2, _⟩ => ⟨S4x80x240, .f32⟩
  | .local _ .vmem, ⟨3, _⟩ => ⟨S80x19200, .f32⟩
  | .local _ .vmem, ⟨4, _⟩ => ⟨S4x19200, .f32⟩
  | _, _ => ⟨S1x240x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1x240x80x80 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12x80x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x80x240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x19200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x19200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x240x80x80 : Shape := ⟨4, ![1, 240, 80, 80]⟩
abbrev S1x12x80x80 : Shape := ⟨4, ![1, 12, 80, 80]⟩
abbrev S3x4 : Shape := ⟨2, ![3, 4]⟩
abbrev S4 : Shape := ⟨1, ![4]⟩
abbrev S1x80x240x80 : Shape := ⟨4, ![1, 80, 240, 80]⟩
abbrev S19200x80 : Shape := ⟨2, ![19200, 80]⟩
abbrev S1x80x12x80 : Shape := ⟨4, ![1, 80, 12, 80]⟩
abbrev S19200x4 : Shape := ⟨2, ![19200, 4]⟩
abbrev S_ : Shape := ⟨0, ![]⟩
abbrev S80 : Shape := ⟨1, ![80]⟩
abbrev S80x80 : Shape := ⟨2, ![80, 80]⟩
abbrev S80x80x1 : Shape := ⟨3, ![80, 80, 1]⟩
abbrev S80x80x2 : Shape := ⟨3, ![80, 80, 2]⟩
abbrev S1x1x3x4 : Shape := ⟨4, ![1, 1, 3, 4]⟩
abbrev S1x1x1x1x1x3x1x4 : Shape := ⟨8, ![1, 1, 1, 1, 1, 3, 1, 4]⟩
abbrev S80x1x80x1x1x3x1x4 : Shape := ⟨8, ![80, 1, 80, 1, 1, 3, 1, 4]⟩
abbrev S80x80x3x4 : Shape := ⟨4, ![80, 80, 3, 4]⟩
abbrev S80x80x1x2 : Shape := ⟨4, ![80, 80, 1, 2]⟩
abbrev S1 : Shape := ⟨1, ![1]⟩
abbrev S80x80x3x2 : Shape := ⟨4, ![80, 80, 3, 2]⟩
abbrev S1x4 : Shape := ⟨2, ![1, 4]⟩
abbrev S19200x2 : Shape := ⟨2, ![19200, 2]⟩

abbrev nBuf : Space → Nat
  | .hbm => 66
  | .vmem => 0
  | .smem => 0
  | _ => 0

abbrev bufTy : (tb : Table) → Fin (tcTables nBuf tb) → BufTy
  | .hbm, ⟨0, _⟩ => ⟨S1x240x80x80, .f32⟩
  | .hbm, ⟨1, _⟩ => ⟨S1x12x80x80, .f32⟩
  | .hbm, ⟨2, _⟩ => ⟨S3x4, .f32⟩
  | .hbm, ⟨3, _⟩ => ⟨S4, .f32⟩
  | .hbm, ⟨4, _⟩ => ⟨S1x80x240x80, .f32⟩
  | .hbm, ⟨5, _⟩ => ⟨S19200x80, .f32⟩
  | .hbm, ⟨6, _⟩ => ⟨S1x80x12x80, .f32⟩
  | .hbm, ⟨7, _⟩ => ⟨S19200x4, .f32⟩
  | .hbm, ⟨8, _⟩ => ⟨S19200x80, .f32⟩
  | .hbm, ⟨9, _⟩ => ⟨S19200x80, .f32⟩
  | .hbm, ⟨10, _⟩ => ⟨S_, .f32⟩
  | .hbm, ⟨11, _⟩ => ⟨S19200x80, .f32⟩
  | .hbm, ⟨12, _⟩ => ⟨S19200x80, .f32⟩
  | .hbm, ⟨13, _⟩ => ⟨S_, .f32⟩
  | .hbm, ⟨14, _⟩ => ⟨S19200x80, .f32⟩
  | .hbm, ⟨15, _⟩ => ⟨S19200x80, .f32⟩
  | .hbm, ⟨16, _⟩ => ⟨S80, .f32⟩
  | .hbm, ⟨17, _⟩ => ⟨S_, .f32⟩
  | .hbm, ⟨18, _⟩ => ⟨S80, .f32⟩
  | .hbm, ⟨19, _⟩ => ⟨S80, .f32⟩
  | .hbm, ⟨20, _⟩ => ⟨S_, .f32⟩
  | .hbm, ⟨21, _⟩ => ⟨S80, .f32⟩
  | .hbm, ⟨22, _⟩ => ⟨S80, .f32⟩
  | .hbm, ⟨23, _⟩ => ⟨S80, .f32⟩
  | .hbm, ⟨24, _⟩ => ⟨S_, .f32⟩
  | .hbm, ⟨25, _⟩ => ⟨S80, .f32⟩
  | .hbm, ⟨26, _⟩ => ⟨S80, .f32⟩
  | .hbm, ⟨27, _⟩ => ⟨S_, .f32⟩
  | .hbm, ⟨28, _⟩ => ⟨S80, .f32⟩
  | .hbm, ⟨29, _⟩ => ⟨S80, .f32⟩
  | .hbm, ⟨30, _⟩ => ⟨S80x80, .f32⟩
  | .hbm, ⟨31, _⟩ => ⟨S80x80, .f32⟩
  | .hbm, ⟨32, _⟩ => ⟨S80x80x1, .f32⟩
  | .hbm, ⟨33, _⟩ => ⟨S80x80x1, .f32⟩
  | .hbm, ⟨34, _⟩ => ⟨S80x80x2, .f32⟩
  | .hbm, ⟨35, _⟩ => ⟨S1x1x3x4, .f32⟩
  | .hbm, ⟨36, _⟩ => ⟨S1x1x1x1x1x3x1x4, .f32⟩
  | .hbm, ⟨37, _⟩ => ⟨S80x1x80x1x1x3x1x4, .f32⟩
  | .hbm, ⟨38, _⟩ => ⟨S80x80x3x4, .f32⟩
  | .hbm, ⟨39, _⟩ => ⟨S80x80x1x2, .f32⟩
  | .hbm, ⟨40, _⟩ => ⟨S_, .i32⟩
  | .hbm, ⟨41, _⟩ => ⟨S1, .i32⟩
  | .hbm, ⟨42, _⟩ => ⟨S80x80x3x2, .f32⟩
  | .hbm, ⟨43, _⟩ => ⟨S80x80x3x4, .f32⟩
  | .hbm, ⟨44, _⟩ => ⟨S19200x4, .f32⟩
  | .hbm, ⟨45, _⟩ => ⟨S1x4, .f32⟩
  | .hbm, ⟨46, _⟩ => ⟨S19200x4, .f32⟩
  | .hbm, ⟨47, _⟩ => ⟨S19200x4, .f32⟩
  | .hbm, ⟨48, _⟩ => ⟨S1x4, .f32⟩
  | .hbm, ⟨49, _⟩ => ⟨S19200x4, .f32⟩
  | .hbm, ⟨50, _⟩ => ⟨S19200x4, .f32⟩
  | .hbm, ⟨51, _⟩ => ⟨S19200x2, .f32⟩
  | .hbm, ⟨52, _⟩ => ⟨S19200x2, .f32⟩
  | .hbm, ⟨53, _⟩ => ⟨S19200x2, .f32⟩
  | .hbm, ⟨54, _⟩ => ⟨S19200x2, .f32⟩
  | .hbm, ⟨55, _⟩ => ⟨S19200x2, .f32⟩
  | .hbm, ⟨56, _⟩ => ⟨S19200x2, .f32⟩
  | .hbm, ⟨57, _⟩ => ⟨S19200x2, .f32⟩
  | .hbm, ⟨58, _⟩ => ⟨S19200x2, .f32⟩
  | .hbm, ⟨59, _⟩ => ⟨S19200x2, .f32⟩
  | .hbm, ⟨60, _⟩ => ⟨S_, .f32⟩
  | .hbm, ⟨61, _⟩ => ⟨S19200x2, .f32⟩
  | .hbm, ⟨62, _⟩ => ⟨S19200x2, .f32⟩
  | .hbm, ⟨63, _⟩ => ⟨S19200x2, .f32⟩
  | .hbm, ⟨64, _⟩ => ⟨S19200x2, .f32⟩
  | .hbm, ⟨65, _⟩ => ⟨S19200x4, .f32⟩
  | _, _ => ⟨S1x240x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Proof.Transfer.lean ====
/-
  The two printed copies of the kernel are one program: a run of either is a run of the other.
-/
module

public import proofs.«01_k».proof.Proof.Gen.Kernel
public import proofs.«01_k».proof.Proof.Gen.KernelIdeal
public import Idealize.ShloMosaic.Lib.Claim
public import Idealize.ShloMosaic.Lib.Tactic

@[expose] public section

set_option maxRecDepth 16384

noncomputable section

namespace Cert.Detector

open Idealize.ShloMosaic Idealize.ShloMosaic.TcCoe Idealize.ShloMosaic.Tactic
open Idealize.SL Idealize.SL.Sem

variable {F : FTy → Type} [FloatOps F]

/-- The two copies have one entry program. -/
theorem main_eq : (Cert.Kernel.main (F := F)) = Cert.KernelIdeal.main (F := F) := by
  sl_kernel_rfl

/-- The two copies have the same called functions. -/
theorem defs_eq : (Cert.Kernel.defs (F := F)) = Cert.KernelIdeal.defs (F := F) := by
  sl_kernel_rfl

end Cert.Detector

end
-- ==== Proof.Block.lean ====
/-
  What the kernel's body leaves in its two output windows, as closed terms of the blocks it reads.

  The body stores the class scores as 80 column blocks of a (80, 19200) buffer and the boxes as 320 row pieces of a
  (4, 19200) buffer. Both buffers are described here by ONE function of the index: `scoresOf` and `boxesOf`. The lemmas
  say that a stored piece is a block of that function, whatever its place.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit
public import Idealize.ShloMosaic.Lib.PointwiseCore
public import Idealize.ShloMosaic.Lib.Claim
public import Idealize.ShloMosaic.Lib.Ring
public import Idealize.ShloMosaic.Lib.Tactic

@[expose] public section

set_option maxRecDepth 16384

noncomputable section

namespace Cert.Detector

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two output buffers as functions of the index -/

/-- The score block as the body loads it: the whole window. -/
def loadScores (x : Vec F S1x240x80x80 .f32) : Vec F S1x240x80x80 .f32 :=
  View.ld x (Rect.unit (s := S1x240x80x80) ![0, 0, 0, 0] S1x240x80x80.size inb_S1x240x80x80_S1x240x80x80_0_0_0_0)

/-- The box block as the body loads it: the whole window. -/
def loadBoxes (x : Vec F S1x12x80x80 .f32) : Vec F S1x12x80x80 .f32 :=
  View.ld x (Rect.unit (s := S1x12x80x80) ![0, 0, 0, 0] S1x12x80x80.size inb_S1x12x80x80_S1x12x80x80_0_0_0_0)

/-- The anchors' centres along the width, one (80, 240) plane of the anchor table. -/
def anchorX (a : Vec F S4x80x240 .f32) : Vec F S1x80x240 .f32 :=
  View.ld a (Rect.unit (s := S4x80x240) ![0, 0, 0] S1x80x240.size inb_S4x80x240_S1x80x240_0_0_0)
/-- The anchors' centres along the height. -/
def anchorY (a : Vec F S4x80x240 .f32) : Vec F S1x80x240 .f32 :=
  View.ld a (Rect.unit (s := S4x80x240) ![1, 0, 0] S1x80x240.size inb_S4x80x240_S1x80x240_1_0_0)
/-- The anchors' widths. -/
def anchorW (a : Vec F S4x80x240 .f32) : Vec F S1x80x240 .f32 :=
  View.ld a (Rect.unit (s := S4x80x240) ![2, 0, 0] S1x80x240.size inb_S4x80x240_S1x80x240_2_0_0)
/-- The anchors' heights. -/
def anchorH (a : Vec F S4x80x240 .f32) : Vec F S1x80x240 .f32 :=
  View.ld a (Rect.unit (s := S4x80x240) ![3, 0, 0] S1x80x240.size inb_S4x80x240_S1x80x240_3_0_0)

/-- The first corner's width coordinate, at (image column, place within the column). -/
def corner0 (x : Vec F S1x12x80x80 .f32) (a : Vec F S4x80x240 .f32) : FVec F S80x240 .f32 :=
  k0_pay95 (k0_pay84 (loadBoxes x)) (k0_pay86 (loadBoxes x)) (k0_pay88 (anchorX a)) (anchorW a)
/-- The first corner's height coordinate. -/
def corner1 (x : Vec F S1x12x80x80 .f32) (a : Vec F S4x80x240 .f32) : FVec F S80x240 .f32 :=
  k0_pay96 (k0_pay85 (loadBoxes x)) (k0_pay87 (loadBoxes x)) (anchorY a) (anchorH a)
/-- The second corner's width coordinate. -/
def corner2 (x : Vec F S1x12x80x80 .f32) (a : Vec F S4x80x240 .f32) : FVec F S80x240 .f32 :=
  k0_pay97 (k0_pay84 (loadBoxes x)) (k0_pay86 (loadBoxes x)) (k0_pay88 (anchorX a)) (anchorW a)
/-- The second corner's height coordinate. -/
def corner3 (x : Vec F S1x12x80x80 .f32) (a : Vec F S4x80x240 .f32) : FVec F S80x240 .f32 :=
  k0_pay98 (k0_pay85 (loadBoxes x)) (k0_pay87 (loadBoxes x)) (anchorY a) (anchorH a)

/-- Column `240 w + k` of the score buffer is column `w` of the image, place `k`. -/
def scoresAt (v : FVec F S80x80x240 .f32) : Vec F S80x19200 .f32 := fun y =>
  v (ix3 ⟨(y 0 : Nat), (y 0).isLt⟩ ⟨(y 1 : Nat) / 240, Nat.div_lt_of_lt_mul (y 1).isLt⟩ ⟨(y 1 : Nat) % 240, Nat.mod_lt _ (by decide)⟩)

/-- Row `j` of the box buffer is coordinate `j`, its (80, 240) plane laid out row-major. -/
def rowsAt (p : FVec F S80x240 .f32) (n : Fin 19200) : F .f32 :=
  p (ix2 ⟨(n : Nat) / 240, Nat.div_lt_of_lt_mul n.isLt⟩ ⟨(n : Nat) % 240, Nat.mod_lt _ (by decide)⟩)

/-- The score buffer after the body. -/
def scoresOf (x : Vec F S1x240x80x80 .f32) : Vec F S80x19200 .f32 := scoresAt (k0_pay2 (loadScores x))

/-- The four coordinate planes by their row of the box buffer. -/
def corner (x : Vec F S1x12x80x80 .f32) (a : Vec F S4x80x240 .f32) (j : Nat) : FVec F S80x240 .f32 :=
  if j = 0 then corner0 x a else if j = 1 then corner1 x a else if j = 2 then corner2 x a else corner3 x a

/-- The box buffer after the body. -/
def boxesOf (x : Vec F S1x12x80x80 .f32) (a : Vec F S4x80x240 .f32) : Vec F S4x19200 .f32 := fun y =>
  rowsAt (corner x a (y 0)) ⟨(y 1 : Nat), (y 1).isLt⟩

/-! ## One stored piece -/

/-- A column block of the score buffer: the slice at image column `w`, its unit axis dropped. -/
theorem scores_piece (v : FVec F S80x80x240 .f32) (w : Nat) (hs : S80x80x240.Slices ![0, w, 0] S80x1x240)
    (hc : S80x1x240.ShapeCasts S80x240) (x : S80x240.Idx) (y : S80x19200.Idx)
    (h0 : (y 0 : Nat) = x 0) (h1 : (y 1 : Nat) = 240 * w + x 1) :
    shapeCast S80x240 (extractStridedSlice S80x1x240 ![0, w, 0] v hs) hc x = scoresAt v y := by
  unfold scoresAt
  pointwise
  have hx : (x 1 : Nat) < 240 := (x 1).isLt
  congr 2 <;> (apply Fin.ext; dsimp only; omega)

/-- A stored piece of a row of the box buffer: row `w` of a coordinate plane. -/
abbrev rowPiece (p : FVec F S80x240 .f32) (w : Nat) (hs : S80x240.Slices ![w, 0] S1x240) : FVec F S1x240 .f32 :=
  shapeCast S1x240 (shapeCast S240 (extractStridedSlice S1x240 ![w, 0] p hs) shapeCasts_S1x240_S240) shapeCasts_S240_S1x240

/-- It is the row's stretch of 240 places from `240 w` on. -/
theorem boxes_piece (p : FVec F S80x240 .f32) (w : Nat) (hs : S80x240.Slices ![w, 0] S1x240) (x : S1x240.Idx)
    (n : Fin 19200) (h1 : (n : Nat) = 240 * w + x 1) : rowPiece p w hs x = rowsAt p n := by
  unfold rowsAt rowPiece
  pointwise
  have hx : (x 1 : Nat) < 240 := (x 1).isLt
  congr 2 <;> (apply Fin.ext; dsimp only; omega)

/-- Row 0 of the box buffer holds the pieces of the first corner's width plane, -/
theorem row0_piece (b : Vec F S1x12x80x80 .f32) (a : Vec F S4x80x240 .f32) (w : Nat) (hs : S80x240.Slices ![w, 0] S1x240)
    (x : S1x240.Idx) (y : S4x19200.Idx) (h0 : (y 0 : Nat) = 0) (h1 : (y 1 : Nat) = 240 * w + x 1) :
    rowPiece (corner0 b a) w hs x = boxesOf b a y := by
  refine (boxes_piece _ w hs x ⟨(y 1 : Nat), (y 1).isLt⟩ h1).trans ?_
  unfold boxesOf; rw [h0]; rfl
/-- row 1 those of its height plane, -/
theorem row1_piece (b : Vec F S1x12x80x80 .f32) (a : Vec F S4x80x240 .f32) (w : Nat) (hs : S80x240.Slices ![w, 0] S1x240)
    (x : S1x240.Idx) (y : S4x19200.Idx) (h0 : (y 0 : Nat) = 1) (h1 : (y 1 : Nat) = 240 * w + x 1) :
    rowPiece (corner1 b a) w hs x = boxesOf b a y := by
  refine (boxes_piece _ w hs x ⟨(y 1 : Nat), (y 1).isLt⟩ h1).trans ?_
  unfold boxesOf; rw [h0]; rfl
/-- row 2 those of the second corner's width plane, -/
theorem row2_piece (b : Vec F S1x12x80x80 .f32) (a : Vec F S4x80x240 .f32) (w : Nat) (hs : S80x240.Slices ![w, 0] S1x240)
    (x : S1x240.Idx) (y : S4x19200.Idx) (h0 : (y 0 : Nat) = 2) (h1 : (y 1 : Nat) = 240 * w + x 1) :
    rowPiece (corner2 b a) w hs x = boxesOf b a y := by
  refine (boxes_piece _ w hs x ⟨(y 1 : Nat), (y 1).isLt⟩ h1).trans ?_
  unfold boxesOf; rw [h0]; rfl
/-- row 3 those of its height plane. -/
theorem row3_piece (b : Vec F S1x12x80x80 .f32) (a : Vec F S4x80x240 .f32) (w : Nat) (hs : S80x240.Slices ![w, 0] S1x240)
    (x : S1x240.Idx) (y : S4x19200.Idx) (h0 : (y 0 : Nat) = 3) (h1 : (y 1 : Nat) = 240 * w + x 1) :
    rowPiece (corner3 b a) w hs x = boxesOf b a y := by
  refine (boxes_piece _ w hs x ⟨(y 1 : Nat), (y 1).isLt⟩ h1).trans ?_
  unfold boxesOf; rw [h0]; rfl

/-- A buffer written by pieces that cover it reads as any function that agrees with the pieces' canon. -/
theorem filled {κ : Kind} {sp : Space} {s : Shape} {e : EltTy} (v : View sig κ sp s e) (f : v.ty.Contents (Elt F))
    (L : List (View.Piece (Elt F) s e)) (G : s.Idx → Elt F e) (hc : ∀ y, ∃ p ∈ L, y ∈ p.1.set)
    (h : ∀ y, (∃ p ∈ L, y ∈ p.1.set) → View.canon L y = G y) : v.read (Elt F) (v.writes (Elt F) f L) = G :=
  (View.read_writes_eq_canon v f L hc).trans (funext fun y => h y (hc y))

end Cert.Detector

end
-- ==== Proof.Body.lean ====
/-
  The body's triple: on whole staging buffers it ends with the inputs' as they were and the two output buffers at the
  closed terms of `Block`. Every store is a block of one of the two terms, and the stores cover the buffers.
-/
module

public import proofs.«01_k».proof.Proof.Block

@[expose] public section

set_option maxRecDepth 16384

noncomputable section

namespace Cert.Detector

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body's triple -/

set_option maxHeartbeats 40000000 in
/-- The body on whole staging buffers, the inputs' at contents `x0`, `x1`, `x2` and the outputs' at anything: it ends
    with the inputs' as they were, the score buffer at `scoresOf x0` and the box buffer at `boxesOf x1 x2`. -/
theorem body_triple (c : Dev nD) (E : Set ℕ) (arg0 : Memref sig .tc .vmem S1x240x80x80 .f32) (harg0 : arg0.IsWhole)
    (arg1 : Memref sig .tc .vmem S1x12x80x80 .f32) (harg1 : arg1.IsWhole)
    (arg2 : Memref sig .tc .vmem S4x80x240 .f32) (harg2 : arg2.IsWhole)
    (arg3 : Memref sig .tc .vmem S80x19200 .f32) (harg3 : arg3.IsWhole)
    (arg4 : Memref sig .tc .vmem S4x19200 .f32) (harg4 : arg4.IsWhole)
    (x0 : Vec F S1x240x80x80 .f32) (x1 : Vec F S1x12x80x80 .f32) (x2 : Vec F S4x80x240 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (scoresOf x0)
            ∗ owns (c : Thread nD τ) arg4 fullShare (boxesOf x1 x2)) -∗ K ⟨⟩))
      ⊢ wp frame (wpE (defs₀ (F := F)) Variants.none c none) E
          (cc0__body arg0 harg0 arg1 harg1 arg2 harg2 arg3 harg3 arg4 harg4) K := by
  simp only [cc0__body_eq_skeleton]
  unfold cc0__body_skel
  simp only [
    k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton, k0_part23_eq_skeleton, k0_part24_eq_skeleton,
    k0_part25_eq_skeleton, k0_part26_eq_skeleton, k0_part27_eq_skeleton, k0_part28_eq_skeleton,
    k0_part29_eq_skeleton, k0_part30_eq_skeleton, k0_part31_eq_skeleton, k0_part32_eq_skeleton,
    k0_part33_eq_skeleton, k0_part34_eq_skeleton, k0_part35_eq_skeleton, k0_part36_eq_skeleton,
    k0_part37_eq_skeleton, k0_part38_eq_skeleton, k0_part39_eq_skeleton, k0_part40_eq_skeleton,
    k0_part41_eq_skeleton, k0_part42_eq_skeleton, k0_part43_eq_skeleton, k0_part44_eq_skeleton,
    k0_part45_eq_skeleton, k0_part46_eq_skeleton, k0_part47_eq_skeleton, k0_part48_eq_skeleton,
    k0_part49_eq_skeleton, k0_part50_eq_skeleton, k0_part51_eq_skeleton, k0_part52_eq_skeleton,
    k0_part53_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine filled _ _ _ _ ?_ fun y hy => ?_
    · exact View.cover_of_tiledL _ S80x240.size (by sl_kernel_rfl)
    canon_tiles x h
    -- the piece whose stored value the run names as a whole, opened
    case' piece71 => unfold body_triple.sl.r_1
    all_goals
      (refine scores_piece (k0_pay2 (loadScores (View.read (Elt F) arg0.view f0))) _ _ _ x y ?_ ?_ <;> omega)
  iexists _; isplitr
  swap; · iexact H4
  ipureintro
  refine filled _ _ _ _ ?_ fun y hy => ?_
  · exact View.cover_of_tiledL _ S1x240.size (by sl_kernel_rfl)
  canon_tiles x h
  -- the pieces whose stored value the run names as a whole, spelt out
  case' piece0 =>
    change rowPiece (corner3 (View.read (Elt F) arg1.view f1) (View.read (Elt F) arg2.view f2)) 79
      slices_S80x240_o79_0_S1x240 x = _
  case' piece1 =>
    change rowPiece (corner3 (View.read (Elt F) arg1.view f1) (View.read (Elt F) arg2.view f2)) 78
      slices_S80x240_o78_0_S1x240 x = _
  case' piece79 =>
    change rowPiece (corner3 (View.read (Elt F) arg1.view f1) (View.read (Elt F) arg2.view f2)) 0
      slices_S80x240_o0_0_S1x240 x = _
  case' piece159 =>
    change rowPiece (corner2 (View.read (Elt F) arg1.view f1) (View.read (Elt F) arg2.view f2)) 0
      slices_S80x240_o0_0_S1x240 x = _
  case' piece239 =>
    change rowPiece (corner1 (View.read (Elt F) arg1.view f1) (View.read (Elt F) arg2.view f2)) 0
      slices_S80x240_o0_0_S1x240 x = _
  case' piece316 =>
    change rowPiece (corner0 (View.read (Elt F) arg1.view f1) (View.read (Elt F) arg2.view f2)) 3
      slices_S80x240_o3_0_S1x240 x = _
  case' piece319 =>
    change rowPiece (corner0 (View.read (Elt F) arg1.view f1) (View.read (Elt F) arg2.view f2)) 0
      slices_S80x240_o0_0_S1x240 x = _
  all_goals clear hy
  all_goals first
    | (have hr : (y 0 : Nat) = 3 := by omega
       refine row3_piece (View.read (Elt F) arg1.view f1) (View.read (Elt F) arg2.view f2) _ _ x y hr ?_
       omega)
    | (have hr : (y 0 : Nat) = 2 := by omega
       refine row2_piece (View.read (Elt F) arg1.view f1) (View.read (Elt F) arg2.view f2) _ _ x y hr ?_
       omega)
    | (have hr : (y 0 : Nat) = 1 := by omega
       refine row1_piece (View.read (Elt F) arg1.view f1) (View.read (Elt F) arg2.view f2) _ _ x y hr ?_
       omega)
    | (have hr : (y 0 : Nat) = 0 := by omega
       refine row0_piece (View.read (Elt F) arg1.view f1) (View.read (Elt F) arg2.view f2) _ _ x y hr ?_
       omega)

end Cert.Detector

end
-- ==== Proof.Run.lean ====
/-
  The launch: the kernel's whole program from any memory, every buffer it ends with, and every counter back at zero.

  The launch writes the anchor table, runs the body once over the whole arrays, and transposes the two buffers the body
  filled. The set-up (the program around the region, the windows' blocks, the proof data, the body's obligation) follows
  the usual shape of a one-region launch, over the body's triple of `Body`.
-/
module

public import proofs.«01_k».proof.Proof.Body

@[expose] public section

set_option maxRecDepth 16384

noncomputable section

namespace Cert.Detector

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffers when the region starts: the launch memory with the anchor table written. -/
abbrev entry (c : Dev nD) : Valuation τ sig (Elt F) := StableHlo.after (List.flatten [hostOps0]) (fun b => m (c, b))
/-- One of them. -/
abbrev entryAt (c : Dev nD) (b : Ref sig .tc) : Buf (Elt F) ((c : Thread nD τ).loc b) := entry m c (Proc.devRef .tc b)

/-- The line before the region allocates nothing. -/
theorem before_fresh : (hostOps0 : List (HloOp τ sig (Elt F))).Forall fun op => op.fresh = ∅ := by
  simp only [List.Forall]; repeat' constructor
/-- Nor do the two transposes after it. -/
theorem after_fresh : (hostOps1 : List (HloOp τ sig (Elt F))).Forall fun op => op.fresh = ∅ := by
  simp only [List.Forall]; repeat' constructor

set_option maxHeartbeats 800000 in
/-- The program is the table, the region, then the transposes. -/
theorem main_around (𝒱₀ : Variants) : Pipeline.HMainK (Ix := Unit) (Name := ℕ) (U := UR sig nD τ) (Lvl := ℕ) cfgs 0 defs₀ 𝒱₀ m
      (main (F := F)) (entryAt m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact before_fresh) main_chain

/-- The transposes touch the launch's arrays and the buffers beside them only; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- they allocate nothing; -/
theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp after_fresh) op hop
/-- and write no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl
  all_goals intro w; fin_cases w <;> simp only [StableHlo.unary_writes, Finset.mem_singleton] <;>
    exact StableHlo.devRef_ne_of_ne (by decide)

/-- The region finds the class scores as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.nullary_writes,
      Finset.mem_singleton]
    exact StableHlo.devRef_ne_of_ne (by decide)))
/-- The region finds the box regressions as launched. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.nullary_writes,
      Finset.mem_singleton]
    exact StableHlo.devRef_ne_of_ne (by decide)))

/-- The anchor table: the launch's literal words, row-major. -/
def anchorTable : Vec F S4x80x240 .f32 := fun i => FloatOps.ofBits .f32 (lit0 (S4x80x240.rowMajor i))

/-- The region finds the anchor table written. -/
theorem entry_table (c : Dev nD) : entryAt m c main_cst = anchorTable := by
  change StableHlo.after [StableHlo.nullary main_cst _] _ (Proc.devRef .tc main_cst) = _
  rw [StableHlo.after_cons, StableHlo.after_nil, StableHlo.nullary_result]
  rfl

/-! ## The windows' blocks -/

/-- Window `w`'s block, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The proof data: the arrays as the region finds them, the inputs' buffers kept, the outputs' filled by the body. -/
def dats (_ : Fin 1) (c : Dev nD) : Dat τ (Elt F) Unit ℕ (UR sig nD τ) ℕ cfg0 c where
  A w := entryAt m c (Pipeline.arrRef spec0 w)
  after w t := match w with
    | ⟨0, _⟩ => block m c 0 t
    | ⟨1, _⟩ => block m c 1 t
    | ⟨2, _⟩ => block m c 2 t
    | ⟨3, _⟩ => scoresOf (block m c 0 t)
    | ⟨4, _⟩ => boxesOf (block m c 1 t) (block m c 2 t)
  Φ _ := Pipeline.ΦA spec0 c
  q _ := fullShare
  owed _ := 0

/-- The data's arrays are the entry contents. -/
theorem dats_A (c : Dev nD) (w : Fin cfg0.W) : (dats m 0 c).A w = entryAt m c (Pipeline.arrRef spec0 w) := by
  dsimp only [dats]
/-- The body keeps the score block, -/
theorem kept0 (c : Dev nD) (t : Fin cfg0.N) : (dats m 0 c).after 0 t = block m c 0 t := by dsimp only [dats]
/-- the box block -/
theorem kept1 (c : Dev nD) (t : Fin cfg0.N) : (dats m 0 c).after 1 t = block m c 1 t := by dsimp only [dats]
/-- and the anchor block, -/
theorem kept2 (c : Dev nD) (t : Fin cfg0.N) : (dats m 0 c).after 2 t = block m c 2 t := by dsimp only [dats]
/-- fills the score buffer -/
theorem filled3 (c : Dev nD) (t : Fin cfg0.N) : (dats m 0 c).after 3 t = scoresOf (block m c 0 t) := by dsimp only [dats]
/-- and the box buffer. -/
theorem filled4 (c : Dev nD) (t : Fin cfg0.N) : (dats m 0 c).after 4 t = boxesOf (block m c 1 t) (block m c 2 t) := by
  dsimp only [dats]

/-- The score window's buffer holds its block when the body starts. -/
theorem fetched0 (c : Dev nD) (t : Fin cfg0.N) (d) : (dats m 0 c).before 0 t d = block m c 0 t :=
  ((dats m 0 c).before_in_eq_fetched 0 rfl (fun _ => rfl) (fun _ _ _ => rfl)
    (fun t => by rw [kept0]; unfold Dat.blockOf block; rw [dats_A]; try rfl) t d).trans
    (by unfold Dat.fetched Dat.blockOf block; rw [dats_A]; try rfl)
/-- The box window's does. -/
theorem fetched1 (c : Dev nD) (t : Fin cfg0.N) (d) : (dats m 0 c).before 1 t d = block m c 1 t :=
  ((dats m 0 c).before_in_eq_fetched 1 rfl (fun _ => rfl) (fun _ _ _ => rfl)
    (fun t => by rw [kept1]; unfold Dat.blockOf block; rw [dats_A]; try rfl) t d).trans
    (by unfold Dat.fetched Dat.blockOf block; rw [dats_A]; try rfl)
/-- The anchor window's does. -/
theorem fetched2 (c : Dev nD) (t : Fin cfg0.N) (d) : (dats m 0 c).before 2 t d = block m c 2 t :=
  ((dats m 0 c).before_in_eq_fetched 2 rfl (fun _ => rfl) (fun _ _ _ => rfl)
    (fun t => by rw [kept2]; unfold Dat.blockOf block; rw [dats_A]; try rfl) t d).trans
    (by unfold Dat.fetched Dat.blockOf block; rw [dats_A]; try rfl)

/-! ## The body's obligation -/

/-- What the body is given, window by window, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point, from its triple. -/
theorem body_at (c : Dev nD) (t : Fin cfg0.N) :
    given m c t ⊢ wp frame (wpE (defs₀ (F := F)) Variants.none c none) Set.univ (bodyAt0 t) (fun _ => returned m c t) := by
  unfold given returned bodyAt0
  simp only [fetched0, fetched1, fetched2]
  rw [show (dats m 0 c).Φ t.succ = (dats m 0 c).Φ t.castSucc from rfl,
    show (dats m 0 c).owesAt () t.succ = (dats m 0 c).owesAt () t.castSucc from rfl,
    kept0, kept1, kept2, filled3, filled4]
  iintro ⟨HΦ, Ho, ⟨%d0, H0⟩, ⟨%d1, H1⟩, ⟨%d2, H2⟩, ⟨%d3, H3⟩, ⟨%d4, H4⟩⟩
  iapply (body_triple c Set.univ _ _ _ _ _ _ _ _ _ _ (block m c 0 t) (block m c 1 t) (block m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body. -/
theorem body_row (t : Fin cfg0.N) :
    defs₀ (F := F) .tc cfg0.body (cfg0.bodyArgs t (cfg0.slots t)) = bodyAt0 t := by
  unfold defs₀; rw [Defs.onTc_tc]

/-- The obligation the launch asks of the body. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- The whole program terminates, with every array and buffer as computed and every counter at zero. -/
theorem run_all : θ_run defs (onTc (τ := τ) (main (F := F))) (s₀ m ρ) (fun r =>
    Pipeline.FramePost cfgs (dats m) 0 (Pipeline.afterTail₀ cfgs (dats m) 0 (entry m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := entry m) (opss := [hostOps1]) (hsub := tail_sub) (hfresh := tail_fresh) (hkeep := tail_keeps)
    (hmain := main_around m Variants.none) (hA := dats_A m) (hΦ := fun _ _ => rfl)

/-- The one grid point's blocks start at the arrays' origins. -/
theorem origins : ∀ t : Fin cfg0.N, win0_0.index t = ![0, 0, 0, 0] ∧ win0_1.index t = ![0, 0, 0, 0] ∧ win0_2.index t = ![0, 0, 0] :=
  (by decide +kernel : ∀ t : Fin grid0.N, _)

/-- The score window's block is the whole array of scores, -/
theorem block0 (c : Dev nD) : block m c 0 t0_0 = m ((c : Thread nD τ).loc main_arg0) := by
  rw [← entry_arg0 m c]
  blk_ext! [block, origins t0_0]
/-- the box window's the whole array of boxes -/
theorem block1 (c : Dev nD) : block m c 1 t0_0 = m ((c : Thread nD τ).loc main_arg1) := by
  rw [← entry_arg1 m c]
  blk_ext! [block, origins t0_0]
/-- and the anchor window's the whole table. -/
theorem block2 (c : Dev nD) : block m c 2 t0_0 = anchorTable := by
  rw [← entry_table m c]
  blk_ext! [block, origins t0_0]

/-- The score array after the region. -/
theorem array3 (c : Dev nD) : (dats m 0 c).arrAt 3 cfg0.N = scoresOf (m ((c : Thread nD τ).loc main_arg0)) := by
  refine (dats m 0 c).arrAt_eq_of_after_last 3 t0_0 (by decide +kernel) _ fun j => ?_
  blk_simp
  rw [filled3, block0]

/-- The box array after the region. -/
theorem array4 (c : Dev nD) :
    (dats m 0 c).arrAt 4 cfg0.N = boxesOf (m ((c : Thread nD τ).loc main_arg1)) anchorTable := by
  refine (dats m 0 c).arrAt_eq_of_after_last 4 t0_0 (by decide +kernel) _ fun j => ?_
  blk_simp
  rw [filled4, block1, block2]

/-- THE RUN: the transposed score and box buffers, the arguments unchanged, every counter at zero. -/
theorem run_values : θ_run defs (onTc (τ := τ) (main (F := F))) ⟨m, fun _ => 0, ρ⟩ (fun r => (∀ c : Dev nD,
      r.2.mem ((c.tc : Thread nD τ).loc main_v1)
          = transpose S19200x80 [1, 0] (scoresOf (m ((c : Thread nD τ).loc main_arg0))) transposes_S80x19200_S19200x80_1_0
      ∧ r.2.mem ((c.tc : Thread nD τ).loc main_v2)
          = transpose S19200x4 [1, 0] (boxesOf (m ((c : Thread nD τ).loc main_arg1)) anchorTable) transposes_S4x19200_S19200x4_1_0
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (run_all m ρ) fun r hr => ⟨fun c => ⟨?_, ?_, ?_, ?_⟩, hr.2⟩
  · refine ((hr.1 c).2 main_v1 (by decide)).trans ?_
    refine (show _ = StableHlo.after hostOps1 _ (Proc.devRef .tc main_v1) from rfl).trans ?_
    after_results
    exact congrArg (transpose S19200x80 [1, 0] · transposes_S80x19200_S19200x80_1_0)
      ((Pipeline.withArrays_arr spec0 launch0.win.arr_inj c _ _ 3).trans (array3 m c))
  · refine ((hr.1 c).2 main_v2 (by decide)).trans ?_
    refine (show _ = StableHlo.after hostOps1 _ (Proc.devRef .tc main_v2) from rfl).trans ?_
    after_results
    exact congrArg (transpose S19200x4 [1, 0] · transposes_S4x19200_S19200x4_1_0)
      ((Pipeline.withArrays_arr spec0 launch0.win.arr_inj c _ _ 4).trans (array4 m c))
  · exact ((hr.1 c).1 0).trans (((dats m 0 c).arrAt_in 0 rfl _).trans ((dats_A m c 0).trans (entry_arg0 m c)))
  · exact ((hr.1 c).1 1).trans (((dats m 0 c).arrAt_in 1 rfl _).trans ((dats_A m c 1).trans (entry_arg1 m c)))

end Cert.Detector

end
-- ==== Proof.Table.lean ====
/-
  The kernel's anchor table, read as closed formulas.

  The launch writes the anchors as a literal table of 4 * 80 * 240 words: the centres along the width, the centres along
  the height, the widths and the heights. Here every word is checked against a formula of its place (by evaluation of the
  table, entry by entry), and the words that are centres are read as the numbers they stand for.
-/
module

public import proofs.«01_k».proof.KernelIdeal
public import Idealize.ShloMosaic.PureOps.Ideal
public import Mathlib.Tactic.NormNum
public import Mathlib.Tactic.IntervalCases
public import Mathlib.Tactic.FieldSimp

@[expose] public section

set_option maxRecDepth 16384

noncomputable section

namespace Cert.Detector

open Idealize.ShloMosaic

/-- The float32 word of a natural number below 2^24. -/
def word (v : Nat) : Nat :=
  (Nat.log2 v + 127) * 2 ^ 23 + (v - 2 ^ Nat.log2 v) * 2 ^ (23 - Nat.log2 v)

/-- The word of the width of the anchor of shape `a` at a cell: the short side, the square's side, the long side. -/
def widthWord : Nat → Nat
  | 0 => 0x413504F3
  | 1 => 0x41800000
  | _ => 0x41B504F3

/-- The word of its height: the long side, the square's side, the short side. -/
def heightWord : Nat → Nat
  | 0 => 0x41B504F3
  | 1 => 0x41800000
  | _ => 0x413504F3

/-- The table's entries from `lo` on agree with `f`, the first `n` of them. -/
def agrees (lo : Nat) (f : Nat → Nat) (n : Nat) : Bool :=
  Nat.rec true (fun k ih => Nat.beq (Cert.KernelIdeal.lit0t (lo + k)).toNat (f k) && ih) n

/-- What `agrees` checks. -/
theorem entry_of_agrees (lo : Nat) (f : Nat → Nat) (n : Nat) (h : agrees lo f n = true) (k : Nat) (hk : k < n) :
    Cert.KernelIdeal.lit0t (lo + k) = BitVec.ofNat 32 (f k) := by
  induction n with
  | zero => omega
  | succ n ih =>
    obtain ⟨h1, h2⟩ := Bool.and_eq_true_iff.mp h
    rcases Nat.lt_succ_iff_lt_or_eq.mp hk with hk | rfl
    · exact ih h2 hk
    · rw [← Nat.eq_of_beq_eq_true h1, BitVec.ofNat_toNat, BitVec.setWidth_eq]

/-- The centres along the width: 16 x + 8 in image column `x`. -/
theorem table_x (n : Nat) (hn : n < 19200) :
    Cert.KernelIdeal.lit0t (0 + n) = BitVec.ofNat 32 (word (16 * (n % 240 / 3) + 8)) :=
  entry_of_agrees 0 (fun n => word (16 * (n % 240 / 3) + 8)) 19200 (by decide +kernel) n hn

/-- The centres along the height: 16 y + 8 in image row `y`. -/
theorem table_y (n : Nat) (hn : n < 19200) :
    Cert.KernelIdeal.lit0t (19200 + n) = BitVec.ofNat 32 (word (16 * (n / 240) + 8)) :=
  entry_of_agrees 19200 (fun n => word (16 * (n / 240) + 8)) 19200 (by decide +kernel) n hn

/-- The widths, by the anchor's shape. -/
theorem table_w (n : Nat) (hn : n < 19200) :
    Cert.KernelIdeal.lit0t (38400 + n) = BitVec.ofNat 32 (widthWord (n % 3)) :=
  entry_of_agrees 38400 (fun n => widthWord (n % 3)) 19200 (by decide +kernel) n hn

/-- The heights, by the anchor's shape. -/
theorem table_h (n : Nat) (hn : n < 19200) :
    Cert.KernelIdeal.lit0t (57600 + n) = BitVec.ofNat 32 (heightWord (n % 3)) :=
  entry_of_agrees 57600 (fun n => heightWord (n % 3)) 19200 (by decide +kernel) n hn

end Cert.Detector

end
-- ==== Proof.Centre.lean ====
/-
  The words of the anchors' centres, read as the numbers they stand for.
-/
module

public import proofs.«01_k».proof.Proof.Table
public import Mathlib.Tactic.NormNum
public import Mathlib.Tactic.FieldSimp

@[expose] public section

set_option maxRecDepth 16384

noncomputable section

namespace Cert.Detector

open Idealize.ShloMosaic

/-- The three fields of a centre's word: positive, a normal exponent, and a significand that is the centre shifted. -/
theorem centre_fields : ∀ c : Fin 80, ((BitVec.ofNat 32 (word (16 * c + 8))).extractLsb' 31 1 == 1#1) = false
    ∧ ((BitVec.ofNat 32 (word (16 * c + 8))).extractLsb' 23 8).toNat ≠ 255
    ∧ ((BitVec.ofNat 32 (word (16 * c + 8))).extractLsb' 23 8).toNat ≠ 0
    ∧ ((BitVec.ofNat 32 (word (16 * c + 8))).extractLsb' 23 8).toNat ≤ 150
    ∧ 2 ^ 23 + ((BitVec.ofNat 32 (word (16 * c + 8))).extractLsb' 0 23).toNat
        = (16 * c + 8) * 2 ^ (150 - ((BitVec.ofNat 32 (word (16 * c + 8))).extractLsb' 23 8).toNat) := by
  decide +kernel

/-- A centre's word, read as an extended real, is the centre. -/
theorem centre_value (c : Nat) (hc : c < 80) :
    Ideal.ofBits .f32 (BitVec.ofNat 32 (word (16 * c + 8))) = ((16 * (c : ℝ) + 8 : ℝ) : EReal) := by
  obtain ⟨hs, h1, h0, hle, hf⟩ := centre_fields ⟨c, hc⟩
  dsimp only at hs h1 h0 hle hf
  show Ideal.ieee 8 23 _ = _
  generalize BitVec.ofNat 32 (word (16 * c + 8)) = b at *
  unfold Ideal.ieee
  dsimp only
  rw [show (8 : Nat) + 23 = 31 from rfl, hs, if_neg (by simpa using h1), if_neg h0]
  generalize (b.extractLsb' 23 8).toNat = e at *
  rw [hf]
  congr 1
  have hp : ((2 : ℝ) ^ ((e : ℤ) - (2 ^ (8 - 1) - 1) - (23 : ℕ))) = ((2 : ℝ) ^ (150 - e))⁻¹ := by
    rw [← zpow_natCast, ← zpow_neg]
    congr 1
    push_cast [Nat.cast_sub hle]
    norm_num
    omega
  rw [hp]
  push_cast
  field_simp

end Cert.Detector

end
-- ==== Proof.KernelAt.lean ====
/-
  The kernel's two buffers read at an index, over the extended reals, and its anchor table read as numbers.
-/
module

public import proofs.«01_k».proof.Proof.Block
public import proofs.«01_k».proof.Proof.Centre
public import Idealize.ShloMosaic.Lib.Pointwise
public import Idealize.ShloMosaic.Lib.IdealHost
public import Idealize.ShloMosaic.Lib.Claim

@[expose] public section

set_option maxRecDepth 16384

noncomputable section

namespace Cert.Detector

open Cert.KernelIdeal Cert.KernelIdeal.Gen
open Idealize.ShloMosaic Idealize.ShloMosaic.TcCoe Idealize.ShloMosaic.Tactic

/-- The score block is loaded whole. -/
theorem loadScores_eq (x : Vec Ideal S1x240x80x80 .f32) : loadScores x = x := by
  unfold loadScores
  funext i
  idx_vars i
  obtain rfl : i0 = 0 := Subsingleton.elim _ _
  pointwise

/-- The box block is loaded whole. -/
theorem loadBoxes_eq (x : Vec Ideal S1x12x80x80 .f32) : loadBoxes x = x := by
  unfold loadBoxes
  funext i
  idx_vars i
  obtain rfl : i0 = 0 := Subsingleton.elim _ _
  pointwise

/-- The score buffer: the logistic of the score of one class, image column and place. -/
theorem scoresOf_at (x : Vec Ideal S1x240x80x80 .f32) (h : Fin 80) (n : Fin 19200) : scoresOf x (ix2 h n)
    = Ideal.logistic (x (ix4 (0 : Fin 1) ⟨(n : Nat) % 240, by omega⟩ h ⟨(n : Nat) / 240, by omega⟩)) := by
  unfold scoresOf scoresAt
  rw [loadScores_eq]
  pointwise [k0_pay2]

/-! ## The boxes -/

/-- A prediction scaled and shifted by the constant of word `b`. -/
def delta (b : BitVec 32) (p : EReal) : EReal := p * Ideal.ofBits .f32 b + Ideal.ofBits .f32 b

/-- A box's centre on one axis: its delta `t` in units of the anchor's size `s`, from the anchor's centre `c`. -/
def centre (t s c : EReal) : EReal := t * s + c

/-- Half a box's size on one axis, as the kernel computes it: half the exponential of its delta, in units of `s`. -/
def halfSize (t s : EReal) : EReal := Ideal.ofBits .f32 0x3F000000#32 * Ideal.exp t * s

/-- The first corner across. -/
theorem corner0_at (x : Vec Ideal S1x12x80x80 .f32) (a : Vec Ideal S4x80x240 .f32) (w : Fin 80) (k : Fin 240) : corner0 x a (ix2 w k)
    = centre (delta 0x3DCCCCCD#32 (x (ix4 (0 : Fin 1) ⟨(k : Nat) / 20, by omega⟩ ⟨(k : Nat) % 20 * 4, by omega⟩ w)))
        (a (ix3 (2 : Fin 4) w k)) (a (ix3 (0 : Fin 4) w k))
      - halfSize (delta 0x3E4CCCCD#32 (x (ix4 (0 : Fin 1) ⟨(k : Nat) / 20, by omega⟩ ⟨(k : Nat) % 20 * 4 + 2, by omega⟩ w)))
        (a (ix3 (2 : Fin 4) w k)) := by
  unfold corner0 anchorX anchorW centre delta halfSize
  rw [loadBoxes_eq]
  unfold_payloads
  pointwise

/-- The first corner down. -/
theorem corner1_at (x : Vec Ideal S1x12x80x80 .f32) (a : Vec Ideal S4x80x240 .f32) (w : Fin 80) (k : Fin 240) : corner1 x a (ix2 w k)
    = centre (delta 0x3DCCCCCD#32 (x (ix4 (0 : Fin 1) ⟨(k : Nat) / 20, by omega⟩ ⟨(k : Nat) % 20 * 4 + 1, by omega⟩ w)))
        (a (ix3 (3 : Fin 4) w k)) (a (ix3 (1 : Fin 4) w k))
      - halfSize (delta 0x3E4CCCCD#32 (x (ix4 (0 : Fin 1) ⟨(k : Nat) / 20, by omega⟩ ⟨(k : Nat) % 20 * 4 + 3, by omega⟩ w)))
        (a (ix3 (3 : Fin 4) w k)) := by
  unfold corner1 anchorY anchorH centre delta halfSize
  rw [loadBoxes_eq]
  unfold_payloads
  pointwise

/-- The second corner across. -/
theorem corner2_at (x : Vec Ideal S1x12x80x80 .f32) (a : Vec Ideal S4x80x240 .f32) (w : Fin 80) (k : Fin 240) : corner2 x a (ix2 w k)
    = centre (delta 0x3DCCCCCD#32 (x (ix4 (0 : Fin 1) ⟨(k : Nat) / 20, by omega⟩ ⟨(k : Nat) % 20 * 4, by omega⟩ w)))
        (a (ix3 (2 : Fin 4) w k)) (a (ix3 (0 : Fin 4) w k))
      + halfSize (delta 0x3E4CCCCD#32 (x (ix4 (0 : Fin 1) ⟨(k : Nat) / 20, by omega⟩ ⟨(k : Nat) % 20 * 4 + 2, by omega⟩ w)))
        (a (ix3 (2 : Fin 4) w k)) := by
  unfold corner2 anchorX anchorW centre delta halfSize
  rw [loadBoxes_eq]
  unfold_payloads
  pointwise

/-- The second corner down. -/
theorem corner3_at (x : Vec Ideal S1x12x80x80 .f32) (a : Vec Ideal S4x80x240 .f32) (w : Fin 80) (k : Fin 240) : corner3 x a (ix2 w k)
    = centre (delta 0x3DCCCCCD#32 (x (ix4 (0 : Fin 1) ⟨(k : Nat) / 20, by omega⟩ ⟨(k : Nat) % 20 * 4 + 1, by omega⟩ w)))
        (a (ix3 (3 : Fin 4) w k)) (a (ix3 (1 : Fin 4) w k))
      + halfSize (delta 0x3E4CCCCD#32 (x (ix4 (0 : Fin 1) ⟨(k : Nat) / 20, by omega⟩ ⟨(k : Nat) % 20 * 4 + 3, by omega⟩ w)))
        (a (ix3 (3 : Fin 4) w k)) := by
  unfold corner3 anchorY anchorH centre delta halfSize
  rw [loadBoxes_eq]
  unfold_payloads
  pointwise

/-- The box buffer's row `j` is corner plane `j`, row-major. -/
theorem boxesOf_at (x : Vec Ideal S1x12x80x80 .f32) (a : Vec Ideal S4x80x240 .f32) (j : Fin 4) (n : Fin 19200) : boxesOf x a (ix2 j n)
    = corner x a j (ix2 ⟨(n : Nat) / 240, by omega⟩ ⟨(n : Nat) % 240, by omega⟩) := rfl

end Cert.Detector

end
-- ==== Proof.Reference.lean ====
/-
  The reference read at an index, over the extended reals: its scores, its anchors (a table with the centres added by a
  scatter), and its decoded boxes.
-/
module

public import proofs.«01_k».proof.Proof.Gen.ReferenceIdeal.Run
public import Idealize.ShloMosaic.Lib.Pointwise
public import Idealize.ShloMosaic.Lib.IdealHost
public import Idealize.ShloMosaic.Lib.Routing.OpsPair

@[expose] public section

set_option maxRecDepth 16384

noncomputable section

namespace Cert.Detector

open Cert.ReferenceIdeal Cert.ReferenceIdeal.Gen
open Idealize.ShloMosaic Idealize.ShloMosaic.TcCoe Idealize.ShloMosaic.Tactic
open Idealize.SL Idealize.SL.Sem

/-! ## A scatter read at one element -/

/-- A fold that only acts at the items with a property leaves its start alone when no item has it. -/
theorem foldl_none {ι α : Type} (p : ι → Prop) [DecidablePred p] (g : α → ι → α) (l : List ι) (x : α) (h : ∀ n ∈ l, ¬ p n) :
    l.foldl (fun a n => if p n then g a n else a) x = x := by
  induction l generalizing x with
  | nil => rfl
  | cons n l ih =>
    rw [List.foldl_cons, if_neg (h n List.mem_cons_self)]
    exact ih x fun k hk => h k (List.mem_cons_of_mem _ hk)

/-- A fold that only acts at one item of a list without repetitions acts once. -/
theorem foldl_once {ι α : Type} (p : ι → Prop) [DecidablePred p] (g : α → ι → α) (l : List ι) (hl : l.Nodup) (k : ι) (hk : k ∈ l)
    (x : α) (h : ∀ n ∈ l, p n ↔ n = k) : l.foldl (fun a n => if p n then g a n else a) x = g x k := by
  induction l generalizing x with
  | nil => exact absurd hk List.not_mem_nil
  | cons n l ih =>
    rw [List.foldl_cons]
    obtain ⟨hn, hl⟩ := List.nodup_cons.1 hl
    rcases List.mem_cons.1 hk with rfl | hk
    · rw [if_pos ((h k List.mem_cons_self).2 rfl)]
      refine foldl_none p g l _ fun m hm hp => ?_
      exact hn ((h m (List.mem_cons_of_mem _ hm)).1 hp ▸ hm)
    · rw [if_neg fun hp => hn ((h n List.mem_cons_self).1 hp ▸ hk)]
      exact ih hl hk x fun m hm => h m (List.mem_cons_of_mem _ hm)

/-- The index of the update added to columns 0 and 1: both start at column 0. -/
def firstColumn : IVec S1 32 := broadcastInDim S1 ![] bcast_S_S1 (constantI S_ 32 0#32)

/-- Update `k` lands at the element with the same coordinates. -/
theorem lands (k : S80x80x3x2.Idx) (i : S80x80x3x4.Idx) :
    scatter_S80x80x3x4_S1_S80x80x3x2_0123_n_3_0.resultIdx? k firstColumn = some i
      ↔ (k 0 : Nat) = i 0 ∧ (k 1 : Nat) = i 1 ∧ (k 2 : Nat) = i 2 ∧ (k 3 : Nat) = i 3 := by
  rw [Routing.resultIdx?_eq_some]
  have hs : ∀ a, scatter_S80x80x3x4_S1_S80x80x3x2_0123_n_3_0.start k firstColumn a = 0 := by
    intro a
    unfold ScatterDims.start
    split
    · rfl
    · rfl
  have hw0 : scatter_S80x80x3x4_S1_S80x80x3x2_0123_n_3_0.window k 0 = (k 0 : Nat) := rfl
  have hw1 : scatter_S80x80x3x4_S1_S80x80x3x2_0123_n_3_0.window k 1 = (k 1 : Nat) := rfl
  have hw2 : scatter_S80x80x3x4_S1_S80x80x3x2_0123_n_3_0.window k 2 = (k 2 : Nat) := rfl
  have hw3 : scatter_S80x80x3x4_S1_S80x80x3x2_0123_n_3_0.window k 3 = (k 3 : Nat) := rfl
  constructor
  · intro h
    have h0 := h 0; have h1 := h 1; have h2 := h 2; have h3 := h 3
    rw [hs, hw0] at h0; rw [hs, hw1] at h1; rw [hs, hw2] at h2; rw [hs, hw3] at h3
    omega
  · rintro ⟨h0, h1, h2, h3⟩ a
    rw [hs]
    fin_cases a
    · show (0 : Int) + ((scatter_S80x80x3x4_S1_S80x80x3x2_0123_n_3_0.window k 0 : Nat) : Int) = ((i 0 : Nat) : Int)
      rw [hw0]; omega
    · show (0 : Int) + ((scatter_S80x80x3x4_S1_S80x80x3x2_0123_n_3_0.window k 1 : Nat) : Int) = ((i 1 : Nat) : Int)
      rw [hw1]; omega
    · show (0 : Int) + ((scatter_S80x80x3x4_S1_S80x80x3x2_0123_n_3_0.window k 2 : Nat) : Int) = ((i 2 : Nat) : Int)
      rw [hw2]; omega
    · show (0 : Int) + ((scatter_S80x80x3x4_S1_S80x80x3x2_0123_n_3_0.window k 3 : Nat) : Int) = ((i 3 : Nat) : Int)
      rw [hw3]; omega

variable {α : Type} (f : α → α → α) (x : S80x80x3x4.Idx → α) (u : S80x80x3x2.Idx → α)

/-- In columns 0 and 1 the scatter combines the element with the one update that lands there. -/
theorem scatter_hit (i : S80x80x3x4.Idx) (k : S80x80x3x2.Idx) (h0 : (k 0 : Nat) = i 0) (h1 : (k 1 : Nat) = i 1) (h2 : (k 2 : Nat) = i 2)
    (h3 : (k 3 : Nat) = i 3) :
    Host.scatter scatter_S80x80x3x4_S1_S80x80x3x2_0123_n_3_0 f x firstColumn u i = f (x i) (u k) := by
  rw [Routing.scatter_at]
  refine (foldl_once _ (fun a n => f a (u (S80x80x3x2.rowMajor.symm n))) _ (List.nodup_finRange _) (S80x80x3x2.rowMajor k) (List.mem_finRange _) _
    fun n _ => ?_).trans (by rw [Equiv.symm_apply_apply])
  rw [lands]
  constructor
  · rintro ⟨e0, e1, e2, e3⟩
    rw [← Equiv.symm_apply_eq]
    funext a
    fin_cases a
    · exact Fin.ext (e0.trans h0.symm)
    · exact Fin.ext (e1.trans h1.symm)
    · exact Fin.ext (e2.trans h2.symm)
    · exact Fin.ext (e3.trans h3.symm)
  · rintro rfl
    rw [Equiv.symm_apply_apply]
    exact ⟨h0, h1, h2, h3⟩

/-- Columns 2 and 3 are out of the updates' reach. -/
theorem scatter_miss (i : S80x80x3x4.Idx) (h : 2 ≤ (i 3 : Nat)) :
    Host.scatter scatter_S80x80x3x4_S1_S80x80x3x2_0123_n_3_0 f x firstColumn u i = x i := by
  rw [Routing.scatter_at]
  refine foldl_none _ (fun a n => f a (u (S80x80x3x2.rowMajor.symm n))) _ _ fun n _ hn => ?_
  have h3 := ((lands _ _).1 hn).2.2.2
  have := (S80x80x3x2.rowMajor.symm n 3).isLt
  have hb : ((S80x80x3x2.rowMajor.symm n) 3 : Nat) < 2 := this
  omega

/-! ## The anchors -/

/-- The layout of the three anchors of one cell, copied to every cell. -/
def layout : FVec Ideal S80x80x3x4 .f32 :=
  shapeCast S80x80x3x4 (broadcastInDim S80x1x80x1x1x3x1x4 ![0, 1, 2, 3, 4, 5, 6, 7] bcast_S1x1x1x1x1x3x1x4_S80x1x80x1x1x3x1x4_0_1_2_3_4_5_6_7
    (shapeCast S1x1x1x1x1x3x1x4 (broadcastInDim S1x1x3x4 ![2, 3] bcast_S3x4_S1x1x3x4_2_3 fun i => FloatOps.ofBits .f32 (lit0 (S3x4.rowMajor i)))
      shapeCasts_S1x1x3x4_S1x1x1x1x1x3x1x4)) shapeCasts_S80x1x80x1x1x3x1x4_S80x80x3x4

/-- The 80 cell centres along one axis. -/
def centres : FVec Ideal S80 .f32 :=
  mulf (addf (sitofp .f32 (iotaInDim S80 32 0)) (broadcastInDim S80 ![] bcast_S_S80 (constant S_ .f32 0x3F000000#32)))
    (broadcastInDim S80 ![] bcast_S_S80 (constant S_ .f32 0x41800000#32))

/-- The centre of every cell, for each of its three anchors. -/
def shifts : FVec Ideal S80x80x3x2 .f32 :=
  broadcastInDim S80x80x3x2 ![0, 1, 2, 3] bcast_S80x80x1x2_S80x80x3x2_0_1_2_3
    (broadcastInDim S80x80x1x2 ![0, 1, 3] bcast_S80x80x2_S80x80x1x2_0_1_3
      (concatenate S80x80x2 2
        [⟨S80x80x1, broadcastInDim S80x80x1 ![0, 1] bcast_S80x80_S80x80x1_0_1 (broadcastInDim S80x80 ![1] bcast_S80_S80x80_1 centres)⟩,
          ⟨S80x80x1, broadcastInDim S80x80x1 ![0, 1] bcast_S80x80_S80x80x1_0_1 (broadcastInDim S80x80 ![0] bcast_S80_S80x80_0 centres)⟩]
        concatenates_S80x80x1_S80x80x1_S80x80x2_d2))

/-- The anchors, one row each. -/
def anchors : FVec Ideal S19200x4 .f32 :=
  shapeCast S19200x4 (Host.scatter scatter_S80x80x3x4_S1_S80x80x3x2_0123_n_3_0 FloatOps.addf layout firstColumn shifts) shapeCasts_S80x80x3x4_S19200x4

/-- The scaled and shifted box predictions, one row each. -/
def deltas (x : FVec Ideal S1x12x80x80 .f32) : FVec Ideal S19200x4 .f32 :=
  addf (mulf (shapeCast S19200x4 (transpose S1x80x12x80 [0, 3, 1, 2] x transposes_S1x12x80x80_S1x80x12x80_0_3_1_2) shapeCasts_S1x80x12x80_S19200x4)
      (broadcastInDim S19200x4 ![0, 1] bcast_S1x4_S19200x4_0_1 (broadcastInDim S1x4 ![1] bcast_S4_S1x4_1 fun i => FloatOps.ofBits .f32 (lit1 (S4.rowMajor i)))))
    (broadcastInDim S19200x4 ![0, 1] bcast_S1x4_S19200x4_0_1 (broadcastInDim S1x4 ![1] bcast_S4_S1x4_1 fun i => FloatOps.ofBits .f32 (lit1 (S4.rowMajor i))))

/-- The centres of the decoded boxes. -/
def mid (d a : FVec Ideal S19200x4 .f32) : FVec Ideal S19200x2 .f32 :=
  addf (mulf (extractStridedSlice S19200x2 ![0, 0] d slices_S19200x4_S19200x2_0_0) (extractStridedSlice S19200x2 ![0, 2] a slices_S19200x4_S19200x2_0_2))
    (extractStridedSlice S19200x2 ![0, 0] a slices_S19200x4_S19200x2_0_0)

/-- Half the sizes of the decoded boxes. -/
def half (d a : FVec Ideal S19200x4 .f32) : FVec Ideal S19200x2 .f32 :=
  Host.divf (mulf (Host.exp (extractStridedSlice S19200x2 ![0, 2] d slices_S19200x4_S19200x2_0_2)) (extractStridedSlice S19200x2 ![0, 2] a slices_S19200x4_S19200x2_0_2))
    (broadcastInDim S19200x2 ![] bcast_S_S19200x2 (constant S_ .f32 0x40000000#32))

/-- The decoded boxes: the centre less half the size, and the centre plus half the size. -/
def decoded (d a : FVec Ideal S19200x4 .f32) : FVec Ideal S19200x4 .f32 :=
  concatenate S19200x4 1 [⟨S19200x2, subf (mid d a) (half d a)⟩, ⟨S19200x2, addf (mid d a) (half d a)⟩] concatenates_S19200x2_S19200x2_S19200x4_d1

/-- The reference's second result is the decoding of its deltas against its anchors. -/
theorem reference_boxes (m : (ℓ : Loc nD τ sig) → Buf (Elt Ideal) ℓ) (c : Dev nD) :
    Cert.ReferenceIdeal.Value.res_main_v53 m c = decoded (deltas (m ((c.tc : Thread nD τ).loc main_arg1))) anchors := rfl

/-- The centre of cell `n`: cells are 16 wide. -/
theorem centres_at (n : Fin 80) : centres (ix1 n) = ((16 * (n : ℝ) + 8 : ℝ) : EReal) := by
  unfold centres
  pointwise
  have e1 : Ideal.ofBits .f32 (0x3F000000#32) = ((1 / 2 : ℝ) : EReal) := by
    simp [Ideal.ofBits, Ideal.ieee, -EReal.coe_mul]; norm_num
  have e2 : Ideal.ofBits .f32 (0x41800000#32) = ((16 : ℝ) : EReal) := by
    simp [Ideal.ofBits, Ideal.ieee, -EReal.coe_mul]; norm_num
  have e3 : (FloatOps.sitofp .f32 (BitVec.ofNat 32 (n : Nat)) : Ideal .f32) = (((n : Nat) : ℝ) : EReal) := by
    show (((BitVec.ofNat 32 (n : Nat)).toInt : ℝ) : EReal) = _
    rw [StableHlo.Predicate.toInt_ofNat_small _ (by omega)]
    simp
  rw [e1, e2, e3, ← EReal.coe_add, ← EReal.coe_mul]
  congr 1
  ring

/-- The first shift of cell (w, q) is the centre across, -/
theorem shifts_x (w q : Fin 80) (a : Fin 3) : shifts (ix4 w q a (0 : Fin 2)) = centres (ix1 q) := by
  unfold shifts
  generalize centres = v
  pointwise

/-- the second the centre down. -/
theorem shifts_y (w q : Fin 80) (a : Fin 3) : shifts (ix4 w q a (1 : Fin 2)) = centres (ix1 w) := by
  unfold shifts
  generalize centres = v
  pointwise

/-- Every cell has the same layout. -/
theorem layout_at (w q : Fin 80) (a : Fin 3) (j : Fin 4) : layout (ix4 w q a j) = Ideal.ofBits .f32 (lit0 (S3x4.rowMajor (ix2 a j))) := by
  unfold layout
  pointwise

/-- The row of an anchor: image column, cell, and which of the three. -/
theorem anchors_row (n : Fin 19200) (j : Fin 4) : anchors (ix2 n j)
    = Host.scatter scatter_S80x80x3x4_S1_S80x80x3x2_0123_n_3_0 FloatOps.addf layout firstColumn shifts
      (ix4 ⟨(n : Nat) / 240, by omega⟩ ⟨(n : Nat) / 3 % 80, by omega⟩ ⟨(n : Nat) % 3, by omega⟩ j) := by
  unfold anchors
  pointwise

/-- The layout's centres are the origin. -/
theorem layout_first (a : Fin 3) (j : Fin 4) (hj : (j : Nat) < 2) : Ideal.ofBits .f32 (lit0 (S3x4.rowMajor (ix2 a j))) = 0 := by
  have h : lit0 (S3x4.rowMajor (ix2 a j)) = 0#32 := by
    revert a j
    decide +kernel
  rw [h]
  exact Ideal.ofBits_zero_f32

/-- An anchor's centre across: its cell's centre. -/
theorem anchors_x (n : Fin 19200) : anchors (ix2 n (0 : Fin 4)) = ((16 * (((n : Nat) % 240 / 3 : Nat) : ℝ) + 8 : ℝ) : EReal) := by
  rw [anchors_row, scatter_hit _ _ _ _ (ix4 ⟨(n : Nat) / 240, by omega⟩ ⟨(n : Nat) / 3 % 80, by omega⟩ ⟨(n : Nat) % 3, by omega⟩ (0 : Fin 2))
    rfl rfl rfl rfl, layout_at, shifts_x, centres_at]
  rw [layout_first _ _ (by decide)]
  refine (zero_add _).trans ?_
  have h : (n : Nat) / 3 % 80 = (n : Nat) % 240 / 3 := by omega
  dsimp only
  rw [h]

/-- An anchor's centre down. -/
theorem anchors_y (n : Fin 19200) : anchors (ix2 n (1 : Fin 4)) = ((16 * (((n : Nat) / 240 : Nat) : ℝ) + 8 : ℝ) : EReal) := by
  rw [anchors_row, scatter_hit _ _ _ _ (ix4 ⟨(n : Nat) / 240, by omega⟩ ⟨(n : Nat) / 3 % 80, by omega⟩ ⟨(n : Nat) % 3, by omega⟩ (1 : Fin 2))
    rfl rfl rfl rfl, layout_at, shifts_y, centres_at]
  rw [layout_first _ _ (by decide)]
  exact zero_add _

/-- An anchor's width: its layout's. -/
theorem anchors_w (n : Fin 19200) : anchors (ix2 n (2 : Fin 4)) = Ideal.ofBits .f32 (lit0 (S3x4.rowMajor (ix2 (⟨(n : Nat) % 3, by omega⟩ : Fin 3) (2 : Fin 4)))) := by
  rw [anchors_row, scatter_miss _ _ _ _ (show (2 : Nat) ≤ 2 by decide), layout_at]

/-- An anchor's height. -/
theorem anchors_h (n : Fin 19200) : anchors (ix2 n (3 : Fin 4)) = Ideal.ofBits .f32 (lit0 (S3x4.rowMajor (ix2 (⟨(n : Nat) % 3, by omega⟩ : Fin 3) (3 : Fin 4)))) := by
  rw [anchors_row, scatter_miss _ _ _ _ (show (2 : Nat) ≤ 3 by decide), layout_at]

/-! ## The results at an index -/

/-- The mean and scale of the predictions of column `j`. -/
def scale (j : Fin 4) : EReal := Ideal.ofBits .f32 (lit1 (S4.rowMajor (ix1 j)))

/-- A delta: the prediction times its scale plus its mean. Row `n` holds the predictions of image column `n / 240`. -/
theorem deltas_at (x : FVec Ideal S1x12x80x80 .f32) (n : Fin 19200) (j : Fin 4) : deltas x (ix2 n j)
    = x (ix4 (0 : Fin 1) ⟨(n : Nat) / 20 % 12, by omega⟩ ⟨(n : Nat) % 20 * 4 + (j : Nat), by omega⟩ ⟨(n : Nat) / 240, by omega⟩) * scale j
      + scale j := by
  unfold deltas scale
  pointwise

/-- The first corner: the centre less half the size. -/
theorem decoded_lo (d a : FVec Ideal S19200x4 .f32) (n : Fin 19200) (j : Fin 2) : decoded d a (ix2 n (⟨(j : Nat), by omega⟩ : Fin 4))
    = d (ix2 n (⟨(j : Nat), by omega⟩ : Fin 4)) * a (ix2 n (⟨2 + (j : Nat), by omega⟩ : Fin 4)) + a (ix2 n (⟨(j : Nat), by omega⟩ : Fin 4))
      - Ideal.div (Ideal.exp (d (ix2 n (⟨2 + (j : Nat), by omega⟩ : Fin 4))) * a (ix2 n (⟨2 + (j : Nat), by omega⟩ : Fin 4)))
          (Ideal.ofBits .f32 0x40000000#32) := by
  unfold decoded mid half
  pointwise

/-- The second corner: the centre plus half the size. -/
theorem decoded_hi (d a : FVec Ideal S19200x4 .f32) (n : Fin 19200) (j : Fin 2) : decoded d a (ix2 n (⟨2 + (j : Nat), by omega⟩ : Fin 4))
    = d (ix2 n (⟨(j : Nat), by omega⟩ : Fin 4)) * a (ix2 n (⟨2 + (j : Nat), by omega⟩ : Fin 4)) + a (ix2 n (⟨(j : Nat), by omega⟩ : Fin 4))
      + Ideal.div (Ideal.exp (d (ix2 n (⟨2 + (j : Nat), by omega⟩ : Fin 4))) * a (ix2 n (⟨2 + (j : Nat), by omega⟩ : Fin 4)))
          (Ideal.ofBits .f32 0x40000000#32) := by
  unfold decoded mid half
  pointwise

/-- The reference's first result: the logistic of the class scores, one row per anchor. -/
def logistics (x : FVec Ideal S1x240x80x80 .f32) : FVec Ideal S19200x80 .f32 :=
  Host.divf (broadcastInDim S19200x80 ![] bcast_S_S19200x80 (constant S_ .f32 0x3F800000#32))
    (addf (broadcastInDim S19200x80 ![] bcast_S_S19200x80 (constant S_ .f32 0x3F800000#32))
      (Host.exp (Host.negf (shapeCast S19200x80 (transpose S1x80x240x80 [0, 3, 1, 2] x transposes_S1x240x80x80_S1x80x240x80_0_3_1_2)
        shapeCasts_S1x80x240x80_S19200x80))))

/-- It at an index: row `n` is place `n % 240` of image column `n / 240`. -/
theorem logistics_at (x : FVec Ideal S1x240x80x80 .f32) (n : Fin 19200) (h : Fin 80) : logistics x (ix2 n h)
    = Ideal.div (Ideal.ofBits .f32 0x3F800000#32) (Ideal.ofBits .f32 0x3F800000#32
      + Ideal.exp (-(x (ix4 (0 : Fin 1) ⟨(n : Nat) % 240, by omega⟩ h ⟨(n : Nat) / 240, by omega⟩)))) := by
  unfold logistics
  pointwise

end Cert.Detector

end
-- ==== Proof.Anchors.lean ====
/-
  The kernel's anchor table and the reference's anchors are the same numbers.
-/
module

public import proofs.«01_k».proof.Proof.Run
public import proofs.«01_k».proof.Proof.KernelAt
public import proofs.«01_k».proof.Proof.Reference

@[expose] public section

set_option maxRecDepth 16384

noncomputable section

namespace Cert.Detector

open Idealize.ShloMosaic Idealize.ShloMosaic.TcCoe Idealize.ShloMosaic.Tactic

/-- An entry of the kernel's table, by its row-major place. -/
theorem table_at (j : Fin 4) (n : Fin 19200) :
    (anchorTable (F := Ideal)) (ix3 j ⟨(n : Nat) / 240, by omega⟩ (⟨(n : Nat) % 240, by omega⟩ : Fin 240))
      = Ideal.ofBits .f32 (Cert.KernelIdeal.lit0t (19200 * (j : Nat) + n)) := by
  unfold anchorTable
  show Ideal.ofBits .f32 (Cert.KernelIdeal.lit0t _) = _
  congr 2
  refine (Shape.rowMajor_val_three (d := ![4, 80, 240]) _).trans ?_
  show ((j : Nat) * 80 + (n : Nat) / 240) * 240 + (n : Nat) % 240 = _
  omega

/-- The centres across agree, -/
theorem agree_x (n : Fin 19200) :
    (anchorTable (F := Ideal)) (ix3 (0 : Fin 4) ⟨(n : Nat) / 240, by omega⟩ (⟨(n : Nat) % 240, by omega⟩ : Fin 240)) = anchors (ix2 n (0 : Fin 4)) := by
  rw [table_at, anchors_x, ← centre_value _ (by omega), ← table_x n n.isLt]
  rfl
/-- the centres down, -/
theorem agree_y (n : Fin 19200) :
    (anchorTable (F := Ideal)) (ix3 (1 : Fin 4) ⟨(n : Nat) / 240, by omega⟩ (⟨(n : Nat) % 240, by omega⟩ : Fin 240)) = anchors (ix2 n (1 : Fin 4)) := by
  rw [table_at, anchors_y, ← centre_value _ (by omega), ← table_y n n.isLt]
  rfl

/-- The reference's widths are the words of the kernel's table. -/
theorem widths : ∀ a : Fin 3, Cert.ReferenceIdeal.lit0 (Cert.ReferenceIdeal.S3x4.rowMajor (ix2 a (2 : Fin 4))) = BitVec.ofNat 32 (widthWord a) := by
  decide +kernel
/-- So are its heights. -/
theorem heights : ∀ a : Fin 3, Cert.ReferenceIdeal.lit0 (Cert.ReferenceIdeal.S3x4.rowMajor (ix2 a (3 : Fin 4))) = BitVec.ofNat 32 (heightWord a) := by
  decide +kernel

/-- the widths -/
theorem agree_w (n : Fin 19200) :
    (anchorTable (F := Ideal)) (ix3 (2 : Fin 4) ⟨(n : Nat) / 240, by omega⟩ (⟨(n : Nat) % 240, by omega⟩ : Fin 240)) = anchors (ix2 n (2 : Fin 4)) := by
  rw [table_at, anchors_w, widths]
  exact congrArg _ (table_w n n.isLt)
/-- and the heights. -/
theorem agree_h (n : Fin 19200) :
    (anchorTable (F := Ideal)) (ix3 (3 : Fin 4) ⟨(n : Nat) / 240, by omega⟩ (⟨(n : Nat) % 240, by omega⟩ : Fin 240)) = anchors (ix2 n (3 : Fin 4)) := by
  rw [table_at, anchors_h, heights]
  exact congrArg _ (table_h n n.isLt)

end Cert.Detector

end
-- ==== Proof.Equation.lean ====
/-
  The equation: the kernel's two transposed buffers are the reference's two results, over the extended reals.
-/
module

public import proofs.«01_k».proof.Proof.Anchors

@[expose] public section

set_option maxRecDepth 16384

noncomputable section

namespace Cert.Detector

open Idealize.ShloMosaic Idealize.ShloMosaic.TcCoe Idealize.ShloMosaic.Tactic
open Cert.KernelIdeal Cert.KernelIdeal.Gen

/-- The class scores: the kernel's logistic is the reference's 1 / (1 + exp (-x)). -/
theorem scores_eq (x : FVec Ideal S1x240x80x80 .f32) :
    (transpose S19200x80 [1, 0] (scoresOf (F := Ideal) x) transposes_S80x19200_S19200x80_1_0 : FVec Ideal S19200x80 .f32) = logistics x := by
  funext i
  idx_vars i
  rw [logistics_at, Ideal.ofBits_one_f32]
  refine (show _ = scoresOf (F := Ideal) x (ix2 i1 i0) from ?_).trans (scoresOf_at x i1 i0)
  generalize scoresOf (F := Ideal) x = v
  pointwise

/-- Half an exponential times a size is the exponential times the size, divided by two. -/
theorem halfSize_eq (t s : EReal) : halfSize t s = Ideal.div (Ideal.exp t * s) (Ideal.ofBits .f32 0x40000000#32) := by
  have e1 : Ideal.ofBits .f32 (0x3F000000#32) = ((1 / 2 : ℝ) : EReal) := by
    simp [Ideal.ofBits, Ideal.ieee, -EReal.coe_mul]; norm_num
  have e2 : Ideal.ofBits .f32 (0x40000000#32) = ((2 : ℝ) : EReal) := by
    simp [Ideal.ofBits, Ideal.ieee, -EReal.coe_mul]; norm_num
  unfold halfSize
  rw [e1, e2, Ideal.div_coe (by norm_num : (2 : ℝ) ≠ 0), mul_assoc, mul_comm]

/-- The scales of the centres' columns, -/
theorem scale_low (j : Fin 4) (hj : (j : Nat) < 2) : scale j = Ideal.ofBits .f32 0x3DCCCCCD#32 := by
  unfold scale
  congr 1
  revert j
  decide +kernel
/-- and of the sizes'. -/
theorem scale_high (j : Fin 4) (hj : 2 ≤ (j : Nat)) : scale j = Ideal.ofBits .f32 0x3E4CCCCD#32 := by
  unfold scale
  congr 1
  revert j
  decide +kernel

/-- The reference's delta of column `j` of row `n`, in the kernel's coordinates: row `n` is place `n % 240` of image
    column `n / 240`. -/
theorem deltas_place (x : FVec Ideal S1x12x80x80 .f32) (n : Fin 19200) (j : Fin 4) (b : BitVec 32) (hb : scale j = Ideal.ofBits .f32 b)
    (r : Nat) (hr : r < 80) (e : r = (n : Nat) % 240 % 20 * 4 + j) :
    delta b (x (ix4 (0 : Fin 1) ⟨(n : Nat) % 240 / 20, by omega⟩ ⟨r, hr⟩ ⟨(n : Nat) / 240, by omega⟩)) = deltas x (ix2 n j) := by
  subst e
  rw [deltas_at, hb]
  unfold delta
  have h1 : (n : Nat) % 240 / 20 = (n : Nat) / 20 % 12 := by omega
  have h2 : (n : Nat) % 240 % 20 = (n : Nat) % 20 := by omega
  simp only [h1, h2]

/-- The decoded boxes. -/
theorem boxes_eq (x : FVec Ideal S1x12x80x80 .f32) :
    (transpose S19200x4 [1, 0] (boxesOf (F := Ideal) x anchorTable) transposes_S4x19200_S19200x4_1_0 : FVec Ideal S19200x4 .f32)
      = decoded (deltas x) anchors := by
  funext i
  idx_vars i
  refine (show _ = boxesOf (F := Ideal) x anchorTable (ix2 i1 i0) from ?_).trans ?_
  · generalize boxesOf (F := Ideal) x anchorTable = v
    pointwise
  rw [boxesOf_at]
  have d0 := fun h => deltas_place x i0 0 _ (scale_low 0 (by decide)) ((i0 : Nat) % 240 % 20 * 4) h rfl
  have d1 := fun h => deltas_place x i0 1 _ (scale_low 1 (by decide)) ((i0 : Nat) % 240 % 20 * 4 + 1) h rfl
  have d2 := fun h => deltas_place x i0 2 _ (scale_high 2 (by decide)) ((i0 : Nat) % 240 % 20 * 4 + 2) h rfl
  have d3 := fun h => deltas_place x i0 3 _ (scale_high 3 (by decide)) ((i0 : Nat) % 240 % 20 * 4 + 3) h rfl
  fin_cases i1
  · refine (corner0_at x anchorTable _ _).trans (Eq.trans ?_ (decoded_lo (deltas x) anchors i0 0).symm)
    rw [halfSize_eq, d0, d2, agree_x, agree_w]
    rfl
  · refine (corner1_at x anchorTable _ _).trans (Eq.trans ?_ (decoded_lo (deltas x) anchors i0 1).symm)
    rw [halfSize_eq, d1, d3, agree_y, agree_h]
    rfl
  · refine (corner2_at x anchorTable _ _).trans (Eq.trans ?_ (decoded_hi (deltas x) anchors i0 0).symm)
    rw [halfSize_eq, d0, d2, agree_x, agree_w]
    rfl
  · refine (corner3_at x anchorTable _ _).trans (Eq.trans ?_ (decoded_hi (deltas x) anchors i0 1).symm)
    rw [halfSize_eq, d1, d3, agree_y, agree_h]
    rfl

end Cert.Detector

end
-- ==== Proof.Claims.lean ====
/-
  The five claims: the frames of the three programs, and the equality of the kernel's results with the reference's.
-/
module

public import proofs.«01_k».proof.Defs
public import proofs.«01_k».proof.Proof.Transfer
public import proofs.«01_k».proof.Proof.Equation

@[expose] public section

set_option maxRecDepth 16384

noncomputable section

namespace Cert.Detector

open Idealize.ShloMosaic Idealize.ShloMosaic.TcCoe Idealize.ShloMosaic.Tactic
open Idealize.SL Idealize.SL.Sem

/-- The idealized kernel terminates without fault, its arguments unchanged and every counter back at zero. -/
theorem frame_ideal : Cert.quiescent_KernelIdeal := fun m g _ =>
  θ_run_mono (run_values m g) fun _ h => ⟨fun c => (h.1 c).2.2, h.2⟩

/-- So does the kernel over machine floats: the same program at the other float values. -/
theorem frame_kernel : Cert.quiescent_Kernel := fun m g _ => by
  have h := θ_run_mono (run_values (F := Bits) m g) fun _ h => (⟨fun c => (h.1 c).2.2, h.2⟩ : _ ∧ _)
  rw [← main_eq, ← defs_eq] at h
  exact h

/-- And the reference, which has no counters. -/
theorem frame_reference : Cert.quiescent_ReferenceIdeal := fun m g _ =>
  θ_run_mono (Cert.ReferenceIdeal.Value.run m g) fun r h =>
    ⟨fun c => (h c).2.2, sem_eq_zero_of_no_sems (by decide) r.2⟩

/-- From equal arguments the two programs end with equal scores and equal boxes. -/
theorem equal_results : Cert.algebraic_KernelIdeal_ReferenceIdeal := fun m g m' g' _ hagree =>
  ⟨_, _, θ_run_mono (run_values m g) fun _ h => h.1, by
    refine θ_run_mono (Cert.ReferenceIdeal.Value.run m' g') fun r h c => ⟨?_, ?_, (h c).2.2⟩
    · refine (h c).1.trans ?_
      rw [(hagree c).1]
      exact (scores_eq _).symm
    · refine ((h c).2.1.trans (reference_boxes m' c)).trans ?_
      rw [(hagree c).2]
      exact (boxes_eq _).symm⟩

end Cert.Detector

end
-- ==== Proof.lean ====
/-
  The proof of `Cert.Claim`: the three frames, the kernel's preservation (there are no rewrites, so nothing to show), and
  the equality of the kernel's two results with the reference's over the extended reals. Each is a theorem of
  `Proof.Claims`; here they are put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims

@[expose] public section

noncomputable section

namespace Cert.Proof

open Idealize.ShloMosaic Idealize.SL.Sem Cert.Kernel

/-- All five claims hold. -/
theorem claim : Cert.Claim :=
  ⟨Cert.Kernel.Gen.facts, Cert.KernelIdeal.Gen.facts, Cert.ReferenceIdeal.Gen.facts, Cert.Detector.frame_kernel,
    Cert.Detector.frame_ideal, Cert.Detector.frame_reference, trivial, Cert.Detector.equal_results⟩

end Cert.Proof

end
